-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S192x1x6784 : Shape := ⟨3, ![192, 1, 6784]⟩
abbrev S3392x2816 : Shape := ⟨2, ![3392, 2816]⟩
abbrev S53x2816 : Shape := ⟨2, ![53, 2816]⟩
abbrev S2816 : Shape := ⟨1, ![2816]⟩
abbrev S192x6784 : Shape := ⟨2, ![192, 6784]⟩
abbrev S1x2816 : Shape := ⟨2, ![1, 2816]⟩
abbrev S192x2816 : Shape := ⟨2, ![192, 2816]⟩
abbrev S3392x256 : Shape := ⟨2, ![3392, 256]⟩
abbrev S53x256 : Shape := ⟨2, ![53, 256]⟩
abbrev S1x256 : Shape := ⟨2, ![1, 256]⟩
abbrev S192x256 : Shape := ⟨2, ![192, 256]⟩
abbrev S6784x256 : Shape := ⟨2, ![6784, 256]⟩
abbrev S53x128x256 : Shape := ⟨3, ![53, 128, 256]⟩
abbrev S53x1x256 : Shape := ⟨3, ![53, 1, 256]⟩

abbrev nBuf : Space → Nat
  | .hbm => 8
  | .vmem => 11
  | .smem => 0
  | _ => 0

abbrev bufTy : (tb : Table) → Fin (tcTables nBuf tb) → BufTy
  | .hbm, ⟨0, _⟩ => ⟨S192x1x6784, .bf16⟩
  | .hbm, ⟨1, _⟩ => ⟨S3392x2816, .i8⟩
  | .hbm, ⟨2, _⟩ => ⟨S53x2816, .bf16⟩
  | .hbm, ⟨3, _⟩ => ⟨S53x2816, .i8⟩
  | .hbm, ⟨4, _⟩ => ⟨S2816, .f32⟩
  | .hbm, ⟨5, _⟩ => ⟨S192x6784, .bf16⟩
  | .hbm, ⟨6, _⟩ => ⟨S1x2816, .f32⟩
  | .hbm, ⟨7, _⟩ => ⟨S192x2816, .bf16⟩
  | .local _ .vmem, ⟨0, _⟩ => ⟨S192x6784, .bf16⟩
  | .local _ .vmem, ⟨1, _⟩ => ⟨S3392x256, .i8⟩
  | .local _ .vmem, ⟨2, _⟩ => ⟨S3392x256, .i8⟩
  | .local _ .vmem, ⟨3, _⟩ => ⟨S53x256, .bf16⟩
  | .local _ .vmem, ⟨4, _⟩ => ⟨S53x256, .bf16⟩
  | .local _ .vmem, ⟨5, _⟩ => ⟨S53x256, .i8⟩
  | .local _ .vmem, ⟨6, _⟩ => ⟨S53x256, .i8⟩
  | .local _ .vmem, ⟨7, _⟩ => ⟨S1x256, .f32⟩
  | .local _ .vmem, ⟨8, _⟩ => ⟨S1x256, .f32⟩
  | .local _ .vmem, ⟨9, _⟩ => ⟨S192x256, .bf16⟩
  | .local _ .vmem, ⟨10, _⟩ => ⟨S192x256, .bf16⟩
  | _, _ => ⟨S192x1x6784, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S192x6784 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3392x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S53x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S53x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S192x1x6784 : Shape := ⟨3, ![192, 1, 6784]⟩
abbrev S3392x2816 : Shape := ⟨2, ![3392, 2816]⟩
abbrev S53x2816 : Shape := ⟨2, ![53, 2816]⟩
abbrev S2816 : Shape := ⟨1, ![2816]⟩
abbrev S_ : Shape := ⟨0, ![]⟩
abbrev S3392x1x2816 : Shape := ⟨3, ![3392, 1, 2816]⟩
abbrev S3392x2x2816 : Shape := ⟨3, ![3392, 2, 2816]⟩
abbrev S6784x2816 : Shape := ⟨2, ![6784, 2816]⟩
abbrev S53x128x2816 : Shape := ⟨3, ![53, 128, 2816]⟩
abbrev S53x1x2816 : Shape := ⟨3, ![53, 1, 2816]⟩
abbrev S192x1x2816 : Shape := ⟨3, ![192, 1, 2816]⟩
abbrev S1x1x2816 : Shape := ⟨3, ![1, 1, 2816]⟩
abbrev S192x2816 : Shape := ⟨2, ![192, 2816]⟩

abbrev nBuf : Space → Nat
  | .hbm => 33
  | .vmem => 0
  | .smem => 0
  | _ => 0

abbrev bufTy : (tb : Table) → Fin (tcTables nBuf tb) → BufTy
  | .hbm, ⟨0, _⟩ => ⟨S192x1x6784, .bf16⟩
  | .hbm, ⟨1, _⟩ => ⟨S3392x2816, .i8⟩
  | .hbm, ⟨2, _⟩ => ⟨S53x2816, .bf16⟩
  | .hbm, ⟨3, _⟩ => ⟨S53x2816, .i8⟩
  | .hbm, ⟨4, _⟩ => ⟨S2816, .f32⟩
  | .hbm, ⟨5, _⟩ => ⟨S3392x2816, .i32⟩
  | .hbm, ⟨6, _⟩ => ⟨S_, .i32⟩
  | .hbm, ⟨7, _⟩ => ⟨S3392x2816, .i32⟩
  | .hbm, ⟨8, _⟩ => ⟨S3392x2816, .i32⟩
  | .hbm, ⟨9, _⟩ => ⟨S_, .i32⟩
  | .hbm, ⟨10, _⟩ => ⟨S3392x2816, .i32⟩
  | .hbm, ⟨11, _⟩ => ⟨S3392x2816, .i32⟩
  | .hbm, ⟨12, _⟩ => ⟨S3392x1x2816, .i32⟩
  | .hbm, ⟨13, _⟩ => ⟨S3392x1x2816, .i32⟩
  | .hbm, ⟨14, _⟩ => ⟨S3392x2x2816, .i32⟩
  | .hbm, ⟨15, _⟩ => ⟨S6784x2816, .i32⟩
  | .hbm, ⟨16, _⟩ => ⟨S6784x2816, .bf16⟩
  | .hbm, ⟨17, _⟩ => ⟨S53x128x2816, .bf16⟩
  | .hbm, ⟨18, _⟩ => ⟨S53x2816, .i32⟩
  | .hbm, ⟨19, _⟩ => ⟨S53x2816, .bf16⟩
  | .hbm, ⟨20, _⟩ => ⟨S53x1x2816, .bf16⟩
  | .hbm, ⟨21, _⟩ => ⟨S53x128x2816, .bf16⟩
  | .hbm, ⟨22, _⟩ => ⟨S53x128x2816, .bf16⟩
  | .hbm, ⟨23, _⟩ => ⟨S53x1x2816, .bf16⟩
  | .hbm, ⟨24, _⟩ => ⟨S53x128x2816, .bf16⟩
  | .hbm, ⟨25, _⟩ => ⟨S53x128x2816, .bf16⟩
  | .hbm, ⟨26, _⟩ => ⟨S6784x2816, .bf16⟩
  | .hbm, ⟨27, _⟩ => ⟨S192x1x2816, .f32⟩
  | .hbm, ⟨28, _⟩ => ⟨S1x1x2816, .f32⟩
  | .hbm, ⟨29, _⟩ => ⟨S192x1x2816, .f32⟩
  | .hbm, ⟨30, _⟩ => ⟨S192x1x2816, .f32⟩
  | .hbm, ⟨31, _⟩ => ⟨S192x1x2816, .bf16⟩
  | .hbm, ⟨32, _⟩ => ⟨S192x2816, .bf16⟩
  | _, _ => ⟨S192x1x6784, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Proof.Dequant.lean ====
/-
  The mathematics of the layer, free of any program: a weight code is one four-bit half of a packed byte, a weight is
  (code − zero point) · scale of its group of 128 input rows, and an entry of the result is the row-times-column sum
  plus the bias. Then the ways the two programs cut a four-bit half out of a byte, each shown to be that half.
-/
module

public import Idealize.ShloMosaic.Lib.Pointwise

@[expose] public section

noncomputable section

namespace Cert.Dequant

open Idealize.ShloMosaic

/-- The weight code of input row `k`, held in the byte `v`: the byte's low four bits when `k` is even, its high four
    bits when `k` is odd. -/
def code (v : BitVec 8) (k : Nat) : Nat := if k % 2 = 0 then v.toNat % 16 else v.toNat / 16

/-- The dequantized weight: the code less the zero point, times the scale, as a number. -/
def weight (v : BitVec 8) (k : Nat) (z : BitVec 8) (s : EReal) : EReal :=
  ((((code v k : Nat) : ℝ) : EReal) - ((z.toNat : ℝ) : EReal)) * s

/-- One entry of the result: the row `x` against the column of weights (bytes `w`, two rows to a byte; scales `s` and
    zero points `z`, 128 rows to a group), plus the bias `b`. -/
def entry (x : Fin 6784 → EReal) (w : Fin 3392 → BitVec 8) (s : Fin 53 → EReal) (z : Fin 53 → BitVec 8) (b : EReal) :
    EReal :=
  (∑ k : Fin 6784, x k * weight (w ⟨k.val / 2, by omega⟩) k.val (z ⟨k.val / 128, by omega⟩) (s ⟨k.val / 128, by omega⟩))
    + b

/-- The 32-bit word that holds a byte's low four bits in its low half and its high four bits in its high half. -/
def spread (v : BitVec 8) : BitVec 32 :=
  IntOp.ori (IntOp.andi (v.setWidth 32) 15#32)
    (IntOp.shli .vector (IntOp.shrsi .vector (v.setWidth 32) 4#32) 16#32)

/-- Half `k % 2` of the spread word, read as a signed 16-bit integer, is the code of row `k` in that byte. -/
theorem spread_half (v : BitVec 8) (k : Nat) :
    ((spread v).extractLsb' (16 * (k % 2)) 16).toInt = (code v k : Int) := by
  have key : ∀ v : BitVec 8, ((spread v).extractLsb' 0 16).toInt = ((v.toNat % 16 : Nat) : Int)
      ∧ ((spread v).extractLsb' 16 16).toInt = ((v.toNat / 16 : Nat) : Int) := by decide +kernel
  unfold code
  rcases Nat.mod_two_eq_zero_or_one k with h | h
  · rw [h, if_pos rfl]; exact (key v).1
  · rw [h, if_neg (by decide)]; exact (key v).2

/-- The low four bits of a byte, cut out of the byte widened to 32 bits by a mask. -/
theorem low_toInt (v : BitVec 8) : (IntOp.andi (v.setWidth 32) 15#32).toInt = ((v.toNat % 16 : Nat) : Int) := by
  have key : ∀ v : BitVec 8, (IntOp.andi (v.setWidth 32) 15#32).toInt = ((v.toNat % 16 : Nat) : Int) := by
    decide +kernel
  exact key v

/-- The high four bits of a byte, cut out of the byte widened to 32 bits by a shift. -/
theorem high_toInt (v : BitVec 8) :
    (IntOp.shrsi .host (v.setWidth 32) 4#32).toInt = ((v.toNat / 16 : Nat) : Int) := by
  have key : ∀ v : BitVec 8, (IntOp.shrsi .host (v.setWidth 32) 4#32).toInt = ((v.toNat / 16 : Nat) : Int) := by
    decide +kernel
  exact key v

/-- A byte widened to 32 bits keeps its unsigned value when read signed. -/
theorem widen_toInt (v : BitVec 8) : (v.setWidth 32).toInt = (v.toNat : Int) := by
  have key : ∀ v : BitVec 8, (v.setWidth 32).toInt = (v.toNat : Int) := by decide +kernel
  exact key v

end Cert.Dequant

end
-- ==== Proof.Block.lean ====
/-
  What one grid point of the kernel computes from its blocks: the entry of `Dequant.lean`, at each index of the block.
-/
module

public import proofs.«01_k».proof.Proof.Dequant
public import proofs.«01_k».proof.Proof.Gen.KernelIdeal.Skeleton
public import Idealize.ShloMosaic.Lib.BitcastPair

@[expose] public section

set_option maxRecDepth 16384

noncomputable section

namespace Cert.KernelIdeal.Block

open Cert.KernelIdeal Cert.KernelIdeal.Gen Idealize.ShloMosaic

/-- The 32-bit words of a block of packed bytes: each byte's two halves spread over the two halves of a word. -/
def words (w : Vec Ideal S3392x256 .i8) : IVec S3392x256 32 :=
  ori (andi (extui 32 w natLt_8_32) (broadcast S3392x256 15#32))
    (shli (shrsi (extui 32 w natLt_8_32) (broadcast S3392x256 4#32)) (broadcast S3392x256 16#32))

/-- The words at an index. -/
theorem words_apply (w : Vec Ideal S3392x256 .i8) (i : S3392x256.Idx) : words w i = Dequant.spread (w i) := rfl

/-- The words reinterpreted as 16-bit integers hold, in row `k`, the code of input row `k`. -/
theorem codes_toInt (w : Vec Ideal S3392x256 .i8) (k : Fin 6784) (l : Fin 256) :
    (bitcast S6784x256 16 (words w) bitcasts_S3392x256_w32_S6784x256_w16 (ix2 k l)).toInt
      = (Dequant.code (w (ix2 ⟨k.val / 2, by omega⟩ l)) k.val : Int) := by
  rw [bitcast_32_16, words_apply]
  have hrow : S6784x256.row (ix2 k l) = k.val := rfl
  have e : ∀ hp, bitcasts_S3392x256_w32_S6784x256_w16.srcIdx (ix2 k l) (S6784x256.row (ix2 k l) / 2) hp
      = ix2 ⟨k.val / 2, by omega⟩ l := by
    intro hp
    funext a
    apply Fin.ext
    match a with
    | ⟨0, _⟩ => rw [Shape.Bitcasts.srcIdx_row _ _ _ _ _ rfl]; rfl
    | ⟨1, h⟩ => rw [Shape.Bitcasts.srcIdx_other _ _ _ _ _ (show ¬ 1 + 2 = 2 by decide)]; rfl
  rw [e, hrow]
  exact Dequant.spread_half _ _

/-- The block a grid point stores, at an index: the entry of the layer for that row and column. -/
theorem pay_apply (w : Vec Ideal S3392x256 .i8) (z : Vec Ideal S53x256 .i8) (s : Vec Ideal S53x256 .bf16)
    (x : Vec Ideal S192x6784 .bf16) (b : Vec Ideal S1x256 .f32) (r : Fin 192) (l : Fin 256) :
    k0_pay1 (F := Ideal) w z s x b (ix2 r l)
      = Dequant.entry (fun k => x (ix2 r k)) (fun i => w (ix2 i l)) (fun g => s (ix2 g l)) (fun g => z (ix2 g l))
          (b (ix2 0 l)) := by
  pointwise [k0_pay1]
  unfold Dequant.entry
  congr 1
  refine Finset.sum_congr rfl fun k _ => ?_
  congr 1
  unfold Dequant.weight
  congr 2
  show (((bitcast S6784x256 16 (words w) bitcasts_S3392x256_w32_S6784x256_w16 (ix2 k l)).toInt : ℝ) : EReal) = _
  rw [codes_toInt, Int.cast_natCast]

end Cert.KernelIdeal.Block

end
-- ==== Proof.Array.lean ====
/-
  What the kernel leaves in its result array: every grid point writes one block of 256 columns, the eleven blocks fill
  the (192, 2816) array, and block by block it is the entry of `Dequant.lean` of the argument arrays.
-/
module

public import proofs.«01_k».proof.Proof.Block
public import proofs.«01_k».proof.Proof.Gen.KernelIdeal.Value

@[expose] public section

set_option maxRecDepth 4096

noncomputable section

namespace Cert.KernelIdeal.Array

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The result array as one function of the five argument arrays. -/
def value (x : Vec Ideal S192x1x6784 .bf16) (w : Vec Ideal S3392x2816 .i8) (s : Vec Ideal S53x2816 .bf16)
    (z : Vec Ideal S53x2816 .i8) (b : Vec Ideal S2816 .f32) : Vec Ideal S192x2816 .bf16 := fun i =>
  Dequant.entry (fun k => x (ix3 (i 0) 0 k)) (fun j => w (ix2 j (i 1))) (fun g => s (ix2 g (i 1)))
    (fun g => z (ix2 g (i 1))) (b (ix1 (i 1)))

/-- The result array of device `c`, from its argument arrays at launch. -/
abbrev result (c : Dev nD) : Buf (Elt Ideal) ((c : Thread nD τ).loc main_v2) :=
  value (m ((c : Thread nD τ).loc main_arg0)) (m ((c : Thread nD τ).loc main_arg1)) (m ((c : Thread nD τ).loc main_arg2))
    (m ((c : Thread nD τ).loc main_arg3)) (m ((c : Thread nD τ).loc main_arg4))

/-- Column `l` of block `t` in the whole array. -/
def col (t : Fin cfg0.N) (l : Fin 256) : Fin 2816 :=
  ⟨t.val * 256 + l.val, by have := t.isLt; have h : cfg0.N = 11 := N_0; omega⟩

/-- At grid point `t` the activations' window is at the one block there is; each of the other five windows is at column block `t`. -/
theorem index_facts : ∀ t : Fin cfg0.N,
    (win0_0.index t 0 = 0 ∧ win0_0.index t 1 = 0) ∧ (win0_1.index t 0 = 0 ∧ win0_1.index t 1 = t.val)
      ∧ (win0_2.index t 0 = 0 ∧ win0_2.index t 1 = t.val) ∧ (win0_3.index t 0 = 0 ∧ win0_3.index t 1 = t.val)
      ∧ (win0_4.index t 0 = 0 ∧ win0_4.index t 1 = t.val) ∧ (win0_5.index t 0 = 0 ∧ win0_5.index t 1 = t.val) :=
  (by decide +kernel : ∀ t : Fin grid0.N,
    (win0_0.index t 0 = 0 ∧ win0_0.index t 1 = 0) ∧ (win0_1.index t 0 = 0 ∧ win0_1.index t 1 = t.val)
      ∧ (win0_2.index t 0 = 0 ∧ win0_2.index t 1 = t.val) ∧ (win0_3.index t 0 = 0 ∧ win0_3.index t 1 = t.val)
      ∧ (win0_4.index t 0 = 0 ∧ win0_4.index t 1 = t.val) ∧ (win0_5.index t 0 = 0 ∧ win0_5.index t 1 = t.val))

/-- The activations' array as the kernel receives it: the argument with its middle axis of size one dropped. -/
theorem V_x (c : Dev nD) : V m c main_v0
    = shapeCast S192x6784 (m ((c : Thread nD τ).loc main_arg0)) shapeCasts_S192x1x6784_S192x6784 := by
  show StableHlo.after hostOps0 (fun b => m (c, b)) main_v0 = _
  after_results <;> rfl

/-- The bias's array as the kernel receives it: the argument as a single row. -/
theorem V_b (c : Dev nD) : V m c main_v1
    = shapeCast S1x2816 (m ((c : Thread nD τ).loc main_arg4)) shapeCasts_S2816_S1x2816 := by
  show StableHlo.after hostOps0 (fun b => m (c, b)) main_v1 = _
  after_results <;> rfl

/-- Dropping the middle axis of size one, at an index. -/
theorem flat_apply (x : Vec Ideal S192x1x6784 .bf16) (r : Fin 192) (k : Fin 6784) :
    shapeCast S192x6784 x shapeCasts_S192x1x6784_S192x6784 (ix2 r k) = x (ix3 r 0 k) := by
  pointwise

/-- A list of numbers as a single row, at an index. -/
theorem row_apply (b : Vec Ideal S2816 .f32) (n : Fin 2816) :
    shapeCast S1x2816 b shapeCasts_S2816_S1x2816 (ix2 0 n) = b (ix1 n) := by
  pointwise

/-- The activations' block at a point, at an index. -/
theorem x_apply (c : Dev nD) (t : Fin cfg0.N) (r : Fin 192) (k : Fin 6784) :
    (iblk m c 0 t : Vec Ideal S192x6784 .bf16) (ix2 r k) = m ((c : Thread nD τ).loc main_arg0) (ix3 r 0 k) := by
  rw [← flat_apply (m ((c : Thread nD τ).loc main_arg0)) r k, ← V_x m c]
  unfold iblk
  rw [View.read_apply]
  show V m c main_v0 _ = V m c main_v0 _
  congr 1
  obtain ⟨⟨h0, h1⟩, -⟩ := index_facts t
  funext a
  apply Fin.ext
  match a with
  | ⟨0, _⟩ => show win0_0.index t 0 * 192 + 1 * r.val = r.val; rw [h0]; omega
  | ⟨1, _⟩ => show win0_0.index t 1 * 6784 + 1 * k.val = k.val; rw [h1]; omega

/-- The packed bytes' block at a point, at an index. -/
theorem w_apply (c : Dev nD) (t : Fin cfg0.N) (i : Fin 3392) (l : Fin 256) :
    (iblk m c 1 t : Vec Ideal S3392x256 .i8) (ix2 i l) = m ((c : Thread nD τ).loc main_arg1) (ix2 i (col t l)) := by
  rw [← V_main_arg1 m c]
  unfold iblk
  rw [View.read_apply]
  show V m c main_arg1 _ = V m c main_arg1 _
  congr 1
  obtain ⟨-, ⟨h0, h1⟩, -⟩ := index_facts t
  funext a
  apply Fin.ext
  match a with
  | ⟨0, _⟩ => show win0_1.index t 0 * 3392 + 1 * i.val = i.val; rw [h0]; omega
  | ⟨1, _⟩ => show win0_1.index t 1 * 256 + 1 * l.val = t.val * 256 + l.val; rw [h1]; omega

/-- The scales' block at a point, at an index. -/
theorem s_apply (c : Dev nD) (t : Fin cfg0.N) (g : Fin 53) (l : Fin 256) :
    (iblk m c 2 t : Vec Ideal S53x256 .bf16) (ix2 g l) = m ((c : Thread nD τ).loc main_arg2) (ix2 g (col t l)) := by
  rw [← V_main_arg2 m c]
  unfold iblk
  rw [View.read_apply]
  show V m c main_arg2 _ = V m c main_arg2 _
  congr 1
  obtain ⟨-, -, ⟨h0, h1⟩, -⟩ := index_facts t
  funext a
  apply Fin.ext
  match a with
  | ⟨0, _⟩ => show win0_2.index t 0 * 53 + 1 * g.val = g.val; rw [h0]; omega
  | ⟨1, _⟩ => show win0_2.index t 1 * 256 + 1 * l.val = t.val * 256 + l.val; rw [h1]; omega

/-- The zero points' block at a point, at an index. -/
theorem z_apply (c : Dev nD) (t : Fin cfg0.N) (g : Fin 53) (l : Fin 256) :
    (iblk m c 3 t : Vec Ideal S53x256 .i8) (ix2 g l) = m ((c : Thread nD τ).loc main_arg3) (ix2 g (col t l)) := by
  rw [← V_main_arg3 m c]
  unfold iblk
  rw [View.read_apply]
  show V m c main_arg3 _ = V m c main_arg3 _
  congr 1
  obtain ⟨-, -, -, ⟨h0, h1⟩, -⟩ := index_facts t
  funext a
  apply Fin.ext
  match a with
  | ⟨0, _⟩ => show win0_3.index t 0 * 53 + 1 * g.val = g.val; rw [h0]; omega
  | ⟨1, _⟩ => show win0_3.index t 1 * 256 + 1 * l.val = t.val * 256 + l.val; rw [h1]; omega

/-- The bias's block at a point, at an index. -/
theorem b_apply (c : Dev nD) (t : Fin cfg0.N) (l : Fin 256) :
    (iblk m c 4 t : Vec Ideal S1x256 .f32) (ix2 0 l) = m ((c : Thread nD τ).loc main_arg4) (ix1 (col t l)) := by
  rw [← row_apply (m ((c : Thread nD τ).loc main_arg4)) (col t l), ← V_b m c]
  unfold iblk
  rw [View.read_apply]
  show V m c main_v1 _ = V m c main_v1 _
  congr 1
  obtain ⟨-, -, -, -, ⟨h0, h1⟩, -⟩ := index_facts t
  funext a
  apply Fin.ext
  match a with
  | ⟨0, _⟩ => show win0_4.index t 0 * 1 + 1 * 0 = 0; rw [h0]
  | ⟨1, _⟩ => show win0_4.index t 1 * 256 + 1 * l.val = t.val * 256 + l.val; rw [h1]; omega

theorem hz : (![0, 0] : Fin 2 → Nat) = fun _ => 0 := funext fun a => by fin_cases a <;> rfl

/-- The block a point leaves in the result's window is its one store's payload of the whole input blocks. -/
theorem out_eq (x0 : Vec Ideal S192x6784 .bf16) (x1 : Vec Ideal S3392x256 .i8) (x2 : Vec Ideal S53x256 .bf16)
    (x3 : Vec Ideal S53x256 .i8) (x4 : Vec Ideal S1x256 .f32) :
    out0_5 x0 x1 x2 x3 x4 = k0_pay1 x1 x3 x2 x0 x4 := by
  unfold out0_5
  rw [View.canon_unit_zero hz, View.ld_unit_zero (S := S3392x256) hz, View.ld_unit_zero (S := S53x256) hz,
    View.ld_unit_zero (S := S53x256) hz, View.ld_unit_zero (S := S192x6784) hz, View.ld_unit_zero (S := S1x256) hz]

/-- What point `t` writes back is column block `t` of the result. -/
theorem flushed_eq (c : Dev nD) (t : Fin cfg0.N) :
    (dats m 0 c).flushed 5 t = (win0_5.blk t).view.read (Elt Ideal) (result m c) := by
  rw [Value.flushed5, out_eq]
  have key : ∀ j : S192x256.Idx, k0_pay1 (F := Ideal) (iblk m c 1 t) (iblk m c 3 t) (iblk m c 2 t) (iblk m c 0 t) (iblk m c 4 t) j
      = result m c (ix2 (j 0) (col t (j 1))) := by
    intro j
    obtain ⟨r, l, rfl⟩ : ∃ (r : Fin 192) (l : Fin 256), j = ix2 r l := ⟨j 0, j 1, eq_ix2 j⟩
    rw [Block.pay_apply]
    simp only [x_apply, w_apply, s_apply, z_apply, b_apply]
    rfl
  funext j
  refine (key j).trans ?_
  rw [View.read_apply]
  show result m c _ = result m c _
  congr 1
  obtain ⟨-, -, -, -, -, h0, h1⟩ := index_facts t
  funext a
  apply Fin.ext
  match a with
  | ⟨0, _⟩ => show (j 0).val = win0_5.index t 0 * 192 + 1 * (j 0).val; rw [h0]; omega
  | ⟨1, _⟩ => show t.val * 256 + (j 1).val = win0_5.index t 1 * 256 + 1 * (j 1).val; rw [h1]; omega

/-- An index of the result array is in point `t`'s block when its column is one of the block's 256. -/
theorem mem_blk (t : Fin cfg0.N) (i : S192x2816.Idx) (h : t.val * 256 ≤ (i 1).val ∧ (i 1).val < t.val * 256 + 256) :
    i ∈ ((cfg0.win 5).blk t).view.set := by
  show i ∈ ((View.whole main_v2).slice (win0_5.rect t)).set
  rw [View.set_slice_whole, Rect.mem_set_unit]
  obtain ⟨-, -, -, -, -, h0, h1⟩ := index_facts t
  have hr : (i 0).val < 192 := (i 0).isLt
  intro a
  match a with
  | ⟨0, _⟩ => show win0_5.index t 0 * 192 ≤ (i 0).val ∧ (i 0).val < win0_5.index t 0 * 192 + 192; rw [h0]; omega
  | ⟨1, _⟩ => show win0_5.index t 1 * 256 ≤ (i 1).val ∧ (i 1).val < win0_5.index t 1 * 256 + 256; rw [h1]; omega

/-- The eleven blocks fill the result array. -/
theorem cover (i : S192x2816.Idx) :
    ∃ t : Fin cfg0.N, (cfg0.win 5).flush t = true ∧ i ∈ ((cfg0.win 5).blk t).view.set := by
  have hc : (i 1).val < 2816 := (i 1).isLt
  have hN : cfg0.N = 11 := N_0
  refine ⟨⟨(i 1).val / 256, by omega⟩, flush0_5 _, mem_blk _ i ?_⟩
  show (i 1).val / 256 * 256 ≤ _ ∧ _ < (i 1).val / 256 * 256 + 256
  omega

/-- So the result array ends holding the result. -/
theorem final (c : Dev nD) : (dats m 0 c).arrAt 5 cfg0.N = result m c :=
  (dats m 0 c).arrAt_eq_of_cover 5 (result m c) (fun t _ => flushed_eq m c t) cover

/-- The run of the kernel: it terminates with the result array at the result and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.KernelIdeal.Array

end
-- ==== Proof.Formula.lean ====
/-
  What the reference computes, read at an index: its term is split into the codes, the weights and the linear layer,
  each read by a lemma of its own, and put together it is the entry of `Dequant.lean`.
-/
module

public import proofs.«01_k».proof.Proof.Dequant
public import proofs.«01_k».proof.Proof.Gen.ReferenceIdeal

@[expose] public section

set_option maxRecDepth 4096

noncomputable section

namespace Cert.ReferenceIdeal.Formula

open Cert.ReferenceIdeal Cert.ReferenceIdeal.Gen Idealize.ShloMosaic

/-- The low halves of the packed bytes, as 32-bit integers. -/
def lo (w : Vec Ideal S3392x2816 .i8) : IVec S3392x2816 32 :=
  andi (extui 32 w natLt_8_32) (broadcastInDim S3392x2816 ![] bcast_S_S3392x2816 (constantI S_ 32 15#32))

/-- The high halves of the packed bytes, as 32-bit integers. -/
def hi (w : Vec Ideal S3392x2816 .i8) : IVec S3392x2816 32 :=
  Host.shrsi (extui 32 w natLt_8_32) (broadcastInDim S3392x2816 ![] bcast_S_S3392x2816 (constantI S_ 32 4#32))

/-- Two arrays of halves stacked, the first in place 0 and the second in place 1 of the new axis. -/
def stacked (l h : IVec S3392x2816 32) : IVec S3392x2x2816 32 :=
  concatenate S3392x2x2816 1
    [⟨S3392x1x2816, (broadcastInDim S3392x1x2816 ![0, 2] bcast_S3392x2816_S3392x1x2816_0_2 l)⟩,
     ⟨S3392x1x2816, (broadcastInDim S3392x1x2816 ![0, 2] bcast_S3392x2816_S3392x1x2816_0_2 h)⟩]
    concatenates_S3392x1x2816_S3392x1x2816_S3392x2x2816_d1

/-- The codes of all input rows: the stacked halves with the pair axis folded into the rows. -/
def codes (w : Vec Ideal S3392x2816 .i8) : IVec S6784x2816 32 :=
  shapeCast S6784x2816 (stacked (lo w) (hi w)) shapeCasts_S3392x2x2816_S6784x2816

/-- The dequantized weights of codes `q`, scales `s` and zero points `z`, in groups of 128 rows. -/
def weights (q : IVec S6784x2816 32) (s : Vec Ideal S53x2816 .bf16) (z : Vec Ideal S53x2816 .i8) :
    FVec Ideal S6784x2816 .bf16 :=
  shapeCast S6784x2816
    (mulf
      (subf (shapeCast S53x128x2816 (sitofp .bf16 q) shapeCasts_S6784x2816_S53x128x2816)
        (broadcastInDim S53x128x2816 ![0, 1, 2] bcast_S53x1x2816_S53x128x2816_0_1_2
          (broadcastInDim S53x1x2816 ![0, 2] bcast_S53x2816_S53x1x2816_0_2 (sitofp .bf16 (extui 32 z natLt_8_32)))))
      (broadcastInDim S53x128x2816 ![0, 1, 2] bcast_S53x1x2816_S53x128x2816_0_1_2
        (broadcastInDim S53x1x2816 ![0, 2] bcast_S53x2816_S53x1x2816_0_2 s)))
    shapeCasts_S53x128x2816_S6784x2816

/-- The linear layer: the product of `x` with the weights, plus the bias, rows flattened. -/
def linear (x : FVec Ideal S192x1x6784 .bf16) (w : FVec Ideal S6784x2816 .bf16) (b : Vec Ideal S2816 .f32) :
    Vec Ideal S192x2816 .bf16 :=
  shapeCast S192x2816
    (truncf .bf16
      (addf (Host.dotGeneral dot_S192x1x6784_S6784x2816_S192x1x2816_2_0_01_1_n_n none x w)
        (broadcastInDim S192x1x2816 ![0, 1, 2] bcast_S1x1x2816_S192x1x2816_0_1_2
          (broadcastInDim S1x1x2816 ![2] bcast_S2816_S1x1x2816_2 b)))
      bitsLt_bf16_f32)
    shapeCasts_S192x1x2816_S192x2816

/-- A low half at an index. -/
theorem lo_apply (w : Vec Ideal S3392x2816 .i8) (i : Fin 3392) (n : Fin 2816) :
    lo w (ix2 i n) = IntOp.andi ((w (ix2 i n)).setWidth 32) 15#32 := by
  pointwise [lo]

/-- A high half at an index. -/
theorem hi_apply (w : Vec Ideal S3392x2816 .i8) (i : Fin 3392) (n : Fin 2816) :
    hi w (ix2 i n) = IntOp.shrsi .host ((w (ix2 i n)).setWidth 32) 4#32 := by
  pointwise [hi]

/-- The stacked halves at an index: place 0 of the pair axis is the first array, place 1 the second. -/
theorem stacked_apply (l h : IVec S3392x2816 32) (i : Fin 3392) (p : Fin 2) (n : Fin 2816) :
    stacked l h (ix3 i p n) = if p.val < 1 then l (ix2 i n) else h (ix2 i n) := by
  pointwise [stacked]
  rfl

/-- The array of codes at an index, as an integer: the code of that input row. -/
theorem codes_toInt (w : Vec Ideal S3392x2816 .i8) (k : Fin 6784) (n : Fin 2816) :
    (codes w (ix2 k n)).toInt = (Dequant.code (w (ix2 ⟨k.val / 2, by omega⟩ n)) k.val : Int) := by
  have e : codes w (ix2 k n) = stacked (lo w) (hi w) (ix3 ⟨k.val / 2, by omega⟩ ⟨k.val % 2, by omega⟩ n) := by
    pointwise [codes]
  rw [e, stacked_apply, lo_apply, hi_apply]
  unfold Dequant.code
  rcases Nat.mod_two_eq_zero_or_one k.val with h | h
  · simp only [h]; exact Dequant.low_toInt _
  · simp only [h]; exact Dequant.high_toInt _

/-- A weight at an index. -/
theorem weights_apply (q : IVec S6784x2816 32) (s : Vec Ideal S53x2816 .bf16) (z : Vec Ideal S53x2816 .i8)
    (k : Fin 6784) (n : Fin 2816) :
    weights q s z (ix2 k n)
      = ((((q (ix2 k n)).toInt : ℝ) : EReal) - ((((z (ix2 ⟨k.val / 128, by omega⟩ n)).setWidth 32).toInt : ℝ) : EReal))
          * s (ix2 ⟨k.val / 128, by omega⟩ n) := by
  pointwise [weights]
  rfl

/-- The linear layer at an index. -/
theorem linear_apply (x : FVec Ideal S192x1x6784 .bf16) (w : FVec Ideal S6784x2816 .bf16) (b : Vec Ideal S2816 .f32)
    (r : Fin 192) (n : Fin 2816) :
    linear x w b (ix2 r n) = (∑ k : Fin 6784, x (ix3 r 0 k) * w (ix2 k n)) + b (ix1 n) := by
  pointwise [linear]

/-- The reference's result at an index: the entry of the layer for that row and column. -/
theorem result_apply (x : FVec Ideal S192x1x6784 .bf16) (w : Vec Ideal S3392x2816 .i8) (s : Vec Ideal S53x2816 .bf16)
    (z : Vec Ideal S53x2816 .i8) (b : Vec Ideal S2816 .f32) (r : Fin 192) (n : Fin 2816) :
    linear x (weights (codes w) s z) b (ix2 r n)
      = Dequant.entry (fun k => x (ix3 r 0 k)) (fun i => w (ix2 i n)) (fun g => s (ix2 g n)) (fun g => z (ix2 g n))
          (b (ix1 n)) := by
  rw [linear_apply]
  unfold Dequant.entry
  refine congrArg (· + b (ix1 n)) (Finset.sum_congr rfl fun k _ => ?_)
  rw [weights_apply, codes_toInt, Dequant.widen_toInt, Int.cast_natCast, Int.cast_natCast]
  rfl

end Cert.ReferenceIdeal.Formula

end
-- ==== Proof.lean ====
/-
  Hand-written. The proof of `Cert.Claim` (proof/Defs.lean): the three frames, and the algebraic claim. The kernel's result
  array is the entry of the layer at each index (Proof/Array.lean), the reference's term is the same entry
  (Proof/Formula.lean); `value_eq` sets the two beside each other.
-/
module

public import proofs.«01_k».proof.Defs
public import proofs.«01_k».proof.Proof.Array
public import proofs.«01_k».proof.Proof.Formula
public import proofs.«01_k».proof.Proof.Gen.Kernel.Frame
public import proofs.«01_k».proof.Proof.Gen.KernelIdeal.Frame
public import proofs.«01_k».proof.Proof.Gen.ReferenceIdeal.Run
public import Idealize.ShloMosaic.Lib.Quiescent

@[expose] public section

noncomputable section

namespace Cert.Proof

open Idealize.ShloMosaic Idealize.SL.Sem

/-- The reference's term and the kernel's result array are one function of the five arguments. -/
theorem value_eq (x : FVec Ideal Cert.KernelIdeal.S192x1x6784 .bf16) (w : Vec Ideal Cert.KernelIdeal.S3392x2816 .i8)
    (s : Vec Ideal Cert.KernelIdeal.S53x2816 .bf16) (z : Vec Ideal Cert.KernelIdeal.S53x2816 .i8)
    (b : Vec Ideal Cert.KernelIdeal.S2816 .f32) :
    Cert.ReferenceIdeal.Formula.linear x
        (Cert.ReferenceIdeal.Formula.weights (Cert.ReferenceIdeal.Formula.codes w) s z) b
      = Cert.KernelIdeal.Array.value x w s z b := by
  funext i
  obtain ⟨r, n, rfl⟩ : ∃ (r : Fin 192) (n : Fin 2816), i = ix2 r n := ⟨i 0, i 1, eq_ix2 i⟩
  exact Cert.ReferenceIdeal.Formula.result_apply x w s z b r n

/-- The kernel terminates without a fault, leaves its arguments as they were and every semaphore counter at zero. -/
theorem frame_kernel : Cert.quiescent_Kernel (hKernel := Cert.Kernel.Gen.facts) := fun m g _ => Cert.Kernel.Gen.frame m g

/-- The same of the kernel read over the extended reals. -/
theorem frame_kernelIdeal : Cert.quiescent_KernelIdeal (hKernelIdeal := Cert.KernelIdeal.Gen.facts) :=
  fun m g _ => Cert.KernelIdeal.Gen.frame m g

/-- The same of the reference read over the extended reals; it has no semaphore. -/
theorem frame_referenceIdeal : Cert.quiescent_ReferenceIdeal (hReferenceIdeal := Cert.ReferenceIdeal.Gen.facts) :=
  fun m g _ => (θ_run Cert.ReferenceIdeal.defs _ _).mono
    (fun r h => ⟨fun c => (h c).2, Idealize.ShloMosaic.sem_eq_zero_of_no_sems (by decide) r.2⟩)
    (Cert.ReferenceIdeal.Value.run (F := Ideal) m g)

/-- From equal arguments the kernel and the reference, read over the extended reals, end with equal results at every
    index, and with their arguments unchanged. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Array.result m c, Cert.KernelIdeal.Array.run m g, ?_⟩
  refine (θ_run (Cert.ReferenceIdeal.defs (F := Ideal)) _ _).mono (fun r h c => ?_)
    (Cert.ReferenceIdeal.Value.run (F := Ideal) m' g')
  obtain ⟨hv, hrest⟩ := h c
  refine ⟨hv.trans ?_, hrest⟩
  obtain ⟨h0, h1, h2, h3, h4⟩ := hargs c
  rw [h0, h1, h2, h3, h4]
  exact value_eq _ _ _ _ _

theorem claim : Cert.Claim :=
  ⟨Cert.Kernel.Gen.facts, Cert.KernelIdeal.Gen.facts, Cert.ReferenceIdeal.Gen.facts, frame_kernel, frame_kernelIdeal,
    frame_referenceIdeal, trivial, algebraic⟩

end Cert.Proof

end
